-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x32000 : Shape := ⟨2, ![8192, 32000]⟩
abbrev S64x32000 : Shape := ⟨2, ![64, 32000]⟩
abbrev S64 : Shape := ⟨1, ![64]⟩
abbrev S64x1 : Shape := ⟨2, ![64, 1]⟩

abbrev nBuf : Space → Nat
  | .hbm => 2
  | .vmem => 4
  | .smem => 0
  | _ => 0

abbrev bufTy : (tb : Table) → Fin (tcTables nBuf tb) → BufTy
  | .hbm, ⟨0, _⟩ => ⟨S8192x32000, .f32⟩
  | .hbm, ⟨1, _⟩ => ⟨S8192x32000, .f32⟩
  | .local _ .vmem, ⟨0, _⟩ => ⟨S64x32000, .f32⟩
  | .local _ .vmem, ⟨1, _⟩ => ⟨S64x32000, .f32⟩
  | .local _ .vmem, ⟨2, _⟩ => ⟨S64x32000, .f32⟩
  | .local _ .vmem, ⟨3, _⟩ => ⟨S64x32000, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8192x32000 : Shape := ⟨2, ![8192, 32000]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S_, .f32⟩
  | .hbm, ⟨2, _⟩ => ⟨S8192, .f32⟩
  | .hbm, ⟨3, _⟩ => ⟨S8192x1, .f32⟩
  | .hbm, ⟨4, _⟩ => ⟨S8192x32000, .f32⟩
  | .hbm, ⟨5, _⟩ => ⟨S8192x32000, .f32⟩
  | .hbm, ⟨6, _⟩ => ⟨S_, .f32⟩
  | .hbm, ⟨7, _⟩ => ⟨S8192x32000, .f32⟩
  | .hbm, ⟨8, _⟩ => ⟨S8192x32000, .f32⟩
  | .hbm, ⟨9, _⟩ => ⟨S_, .f32⟩
  | .hbm, ⟨10, _⟩ => ⟨S8192x32000, .f32⟩
  | .hbm, ⟨11, _⟩ => ⟨S8192x32000, .f32⟩
  | .hbm, ⟨12, _⟩ => ⟨S8192x32000, .f32⟩
  | .hbm, ⟨13, _⟩ => ⟨S_, .f32⟩
  | .hbm, ⟨14, _⟩ => ⟨S8192x32000, .f32⟩
  | .hbm, ⟨15, _⟩ => ⟨S8192x32000, .f32⟩
  | .hbm, ⟨16, _⟩ => ⟨S8192x32000, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x32000, .f32⟩
  | .hbm, ⟨24, _⟩ => ⟨S8192x32000, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_3 : Ref sig .tc := ⟨.hbm, 17, rfl⟩
abbrev main_v12 : Ref sig .tc := ⟨.hbm, 18, rfl⟩
abbrev main_v13 : Ref sig .tc := ⟨.hbm, 19, rfl⟩
abbrev main_cst_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.RowMath.lean ====
/-
  The mathematics of one row, over the extended reals: the second-order Taylor softmax of a row, and the one equation on which
  the kernel and the reference differ — the kernel multiplies by the reciprocal of the denominator, the reference divides by it.
  The two disagree only at `0 / 0`, and the numerator is never zero.
-/
module

public import Idealize.ShloMosaic.PureOps.Ideal
public import Idealize.ShloMosaic.PureOps.Ideal.Laws
public import Idealize.ShloMosaic.Lib.IdealHost

@[expose] public section

noncomputable section

namespace Cert.TaylorRow

open Idealize.ShloMosaic

/-- The constant ε of both programs: the value of the float word of `1e-8`. -/
abbrev eps : EReal := Ideal.ofBits .f32 0x322BCC77#32
/-- The constant one half of both programs. -/
abbrev half : EReal := Ideal.ofBits .f32 0x3F000000#32

/-- The maximum of a row, from the value of the word of −∞. -/
def rowMax {n : ℕ} (row : Fin n → EReal) : EReal :=
  (Finset.univ : Finset (Fin n)).fold max (Ideal.ofBits .f32 0xFF800000#32) row

/-- The numerator `1 + t + (t + ε)² / 2` at a shifted element `t`. -/
def numer (t : EReal) : EReal := 1 + t + (t + eps) * (t + eps) * half

/-- The denominator of a row: the sum of its numerators, plus ε. -/
def denom {n : ℕ} (row : Fin n → EReal) : EReal := (∑ k, numer (row k - rowMax row)) + eps

/-- The Taylor softmax of a row at place `j`. -/
def softmax {n : ℕ} (row : Fin n → EReal) (j : Fin n) : EReal :=
  Ideal.div (numer (row j - rowMax row)) (denom row)

/-- ε is a real number below one half. -/
theorem eps_real : ∃ e : ℝ, eps = (e : EReal) ∧ e < 1 / 2 := by
  refine ⟨11258999 * (2 : ℝ) ^ (-50 : ℤ), ?_, by norm_num⟩
  simp [eps, Ideal.ofBits, Ideal.ieee, -EReal.coe_mul]

/-- The word of one half is one half. -/
theorem half_real : half = ((1 / 2 : ℝ) : EReal) := by
  simp [half, Ideal.ofBits, Ideal.ieee, -EReal.coe_mul]; norm_num

/-- The numerator is never zero. At a real `t` it is `((t + ε + 1)² + 1) / 2 - ε`, which is positive as `ε < 1/2`; at the two
    infinities it is that infinity. -/
theorem numer_ne_zero (t : EReal) : numer t ≠ 0 := by
  obtain ⟨e, he, hlt⟩ := eps_real
  have h1 : (1 : EReal) = ((1 : ℝ) : EReal) := by norm_cast
  unfold numer
  rw [he, half_real, h1]
  induction t with
  | bot => simp
  | top =>
    rw [EReal.top_add_coe, EReal.top_mul_top, EReal.top_mul_coe_of_pos (by norm_num), EReal.coe_add_top, EReal.top_add_top]
    exact EReal.top_ne_zero
  | coe r =>
    norm_cast
    nlinarith [sq_nonneg (r + e + 1)]

/-- So multiplying a numerator by the reciprocal of any `d` is dividing it by `d`, at `d = 0` as well: both are the infinity of
    the numerator's sign there. -/
theorem numer_mul_recip (t d : EReal) : numer t * Ideal.div 1 d = Ideal.div (numer t) d := by
  by_cases hd : d = 0
  · rcases lt_or_gt_of_ne (numer_ne_zero t) with h | h
    · simp [Ideal.div, hd, EReal.mul_top_of_neg h, h.le.not_gt]
    · simp [Ideal.div, hd, EReal.mul_top_of_pos h, h]
  · simp [Ideal.div, hd]

end Cert.TaylorRow

end
-- ==== Proof.KernelRows.lean ====
/-
  What the kernel computes, over the extended reals: the body turns a block of 64 rows into the Taylor softmax of each row, the
  128 blocks tile the array, so the result array holds the Taylor softmax of every row of the argument.
-/
module

public import proofs.«01_k».proof.Proof.RowMath
public import proofs.«01_k».proof.Proof.Gen.KernelIdeal.Value
public import Idealize.ShloMosaic.Lib.Pointwise

@[expose] public section

noncomputable section

namespace Cert.KernelIdeal.Rows

open Cert.KernelIdeal Cert.KernelIdeal.Gen
open Idealize.ShloMosaic Idealize.ShloMosaic.TcCoe Idealize.SL.Sem
open Idealize.ShloMosaic.Pipeline (Dat)

/-- What the body stores, of a block `P` of 64 rows: at `(r, j)` the Taylor softmax of row `r` of the block at `j`. -/
theorem payload_apply (P : Vec Ideal S64x32000 .f32) (r : Fin 64) (j : Fin 32000) :
    k0_pay1 P (ix2 r j) = Cert.TaylorRow.softmax (fun k : Fin 32000 => P (ix2 r k)) j := by
  pointwise [k0_pay1]
  exact Cert.TaylorRow.numer_mul_recip _ _

variable (m : (ℓ : Loc nD τ sig) → Buf (Elt Ideal) ℓ) (ρ : Dev nD → PrngReg)

/-- The Taylor softmax of every row of an array. -/
def softmaxRows (x : S8192x32000.Idx → EReal) : S8192x32000.Idx → EReal := fun i =>
  Cert.TaylorRow.softmax (fun k : Fin 32000 => x (ix2 (i 0 : Fin 8192) k)) (i 1 : Fin 32000)

/-- The Taylor softmax of every row of device `c`'s argument. -/
abbrev result (c : Dev nD) : Buf (Elt Ideal) ((c : Thread nD τ).loc main_v0) :=
  softmaxRows (m ((c : Thread nD τ).loc main_arg0))

/-- The corner of a block's own rectangle is the origin. -/
theorem corner : (![0, 0] : Fin 2 → Nat) = fun _ => 0 := funext fun a => by fin_cases a <;> rfl

/-- Where the two windows of point `t` lie: rows from `64 t` on, all columns. -/
theorem window_at : ∀ t : Fin cfg0.N,
    win0_0.index t 0 = t.val ∧ win0_0.index t 1 = 0 ∧ win0_1.index t 0 = t.val ∧ win0_1.index t 1 = 0 :=
  (by decide +kernel : ∀ t : Fin grid0.N,
    win0_0.index t 0 = t.val ∧ win0_0.index t 1 = 0 ∧ win0_1.index t 0 = t.val ∧ win0_1.index t 1 = 0)

/-- Row `r` of point `t`'s block is row `64 t + r` of the array. -/
def rowOf (t : Fin cfg0.N) (r : Fin 64) : Fin 8192 :=
  ⟨t.val * 64 + r.val, by have h : t.val < 128 := t.isLt; have := r.isLt; omega⟩

/-- Point `t`'s input block at `(r, k)` is the argument at row `64 t + r`, column `k`. -/
theorem iblk_apply (c : Dev nD) (t : Fin cfg0.N) (r : Fin 64) (k : Fin 32000) :
    iblk m c 0 t (ix2 r k) = m ((c : Thread nD τ).loc main_arg0) (ix2 (rowOf t r) k) := by
  have e : (win0_0.blk t).view.emb (ix2 r k : S64x32000.Idx) = (ix2 (rowOf t r) k : S8192x32000.Idx) := by
    obtain ⟨h0, h1, -, -⟩ := window_at t
    funext a
    refine Fin.ext ?_
    match a with
    | ⟨0, _⟩ => show win0_0.index t 0 * 64 + 1 * r.val = t.val * 64 + r.val; rw [h0]; omega
    | ⟨1, _⟩ => show win0_0.index t 1 * 32000 + 1 * k.val = k.val; rw [h1]; omega
  show V m c (Pipeline.arrRef spec0 0) ((win0_0.blk t).view.emb (ix2 r k : S64x32000.Idx)) = _
  rw [e]

/-- What point `t` writes back is its block of `result`. -/
theorem flushed_eq (c : Dev nD) (t : Fin cfg0.N) :
    (dats m 0 c).flushed 1 t = (win0_1.blk t).view.read (Elt Ideal) (result m c) := by
  rw [Value.flushed1]
  unfold out0_1
  rw [View.canon_unit_zero corner, View.ld_unit_zero corner]
  have hp := payload_apply (iblk m c 0 t)
  generalize k0_pay1 (iblk m c 0 t) = Q at hp ⊢
  funext y
  obtain ⟨r, k, rfl⟩ : ∃ (r : Fin 64) (k : Fin 32000), y = (ix2 r k : S64x32000.Idx) :=
    ⟨y 0, y 1, by funext a; match a with | ⟨0, _⟩ => rfl | ⟨1, _⟩ => rfl⟩
  have e : (win0_1.blk t).view.emb (ix2 r k : S64x32000.Idx) = (ix2 (rowOf t r) k : S8192x32000.Idx) := by
    obtain ⟨-, -, h0, h1⟩ := window_at t
    funext a
    refine Fin.ext ?_
    match a with
    | ⟨0, _⟩ => show win0_1.index t 0 * 64 + 1 * r.val = t.val * 64 + r.val; rw [h0]; omega
    | ⟨1, _⟩ => show win0_1.index t 1 * 32000 + 1 * k.val = k.val; rw [h1]; omega
  have hw : ∀ G : Buf (Elt Ideal) ((c : Thread nD τ).loc main_v0), (win0_1.blk t).view.read (Elt Ideal) G (ix2 r k : S64x32000.Idx)
      = G ((win0_1.blk t).view.emb (ix2 r k : S64x32000.Idx)) := fun G => rfl
  have hc : (cfg0.win 1).cut (grid0.coords t) Q (ix2 r k : S64x32000.Idx) = Q (ix2 r k) := rfl
  refine hc.trans (Eq.trans ?_ (hw (result m c)).symm)
  rw [e, hp]
  exact congrArg (fun row => Cert.TaylorRow.softmax row k) (funext fun k' => iblk_apply m c t r k')

/-- Every index of the result array is in the block of some point: its row's. -/
theorem cover (i : S8192x32000.Idx) :
    ∃ t : Fin cfg0.N, (cfg0.win 1).flush t = true ∧ i ∈ ((cfg0.win 1).blk t).view.set := by
  have h0 : (i 0 : Nat) < 8192 := (i 0).isLt
  have h1 : (i 1 : Nat) < 32000 := (i 1).isLt
  have hN : cfg0.N = 128 := N_0
  refine ⟨⟨(i 0 : Nat) / 64, by omega⟩, flush0_1 _, ?_⟩
  generalize ht : (⟨(i 0 : Nat) / 64, _⟩ : Fin cfg0.N) = t
  have hv : t.val = (i 0 : Nat) / 64 := by rw [← ht]
  obtain ⟨-, -, e0, e1⟩ := window_at t
  show i ∈ ((View.whole main_v0).slice (win0_1.rect t)).set
  rw [View.set_slice_whole, Rect.mem_set_unit]
  intro a
  match a with
  | ⟨0, _⟩ =>
    show win0_1.index t 0 * 64 ≤ (i 0 : Nat) ∧ (i 0 : Nat) < win0_1.index t 0 * 64 + 64
    rw [e0, hv]; omega
  | ⟨1, _⟩ =>
    show win0_1.index t 1 * 32000 ≤ (i 1 : Nat) ∧ (i 1 : Nat) < win0_1.index t 1 * 32000 + 32000
    rw [e1]; omega

/-- The kernel's run: the result array ends at the Taylor softmax of every row of the argument, the argument unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0) :=
  (θ_run defs _ _).mono
    (fun _ h c => ⟨(h c).1.trans ((dats m 0 c).arrAt_eq_of_cover 1 (result m c) (fun t _ => flushed_eq m c t) cover), (h c).2⟩)
    (Value.run_blocks m ρ)

end Cert.KernelIdeal.Rows

end
-- ==== Proof.ReferenceRows.lean ====
/-
  What the reference computes, over the extended reals: at every index the Taylor softmax of that index's row.
-/
module

public import proofs.«01_k».proof.Proof.RowMath
public import proofs.«01_k».proof.Proof.Gen.ReferenceIdeal.Run
public import Idealize.ShloMosaic.Lib.Pointwise

@[expose] public section

noncomputable section

namespace Cert.ReferenceIdeal.Rows

open Cert.ReferenceIdeal Cert.ReferenceIdeal.Gen Idealize.ShloMosaic

/-- The reference's numerators, of the whole array `x`: each row shifted by its maximum, then `1 + t + (t + ε)² / 2`. -/
def numerators (x : FVec Ideal S8192x32000 .f32) : FVec Ideal S8192x32000 .f32 :=
  let t := subf x (broadcastInDim S8192x32000 ![0, 1] bcast_S8192x1_S8192x32000_0_1 (broadcastInDim S8192x1 ![0] bcast_S8192_S8192x1_0
    (Host.reduce FloatOps.maximumf x (constant S_ .f32 0xFF800000#32) reducesTo_S8192x32000_S8192_d1 h_S_)))
  let u := addf t (broadcastInDim S8192x32000 ![] bcast_S_S8192x32000 (constant S_ .f32 0x322BCC77#32))
  addf (addf (broadcastInDim S8192x32000 ![] bcast_S_S8192x32000 (constant S_ .f32 0x3F800000#32)) t)
    (mulf (mulf u u) (broadcastInDim S8192x32000 ![] bcast_S_S8192x32000 (constant S_ .f32 0x3F000000#32)))

/-- The reference's result: the numerators divided by their row's sum plus ε. -/
def result (x : FVec Ideal S8192x32000 .f32) : FVec Ideal S8192x32000 .f32 :=
  Host.divf (numerators x) (broadcastInDim S8192x32000 ![0, 1] bcast_S8192x1_S8192x32000_0_1
    (addf (broadcastInDim S8192x1 ![0] bcast_S8192_S8192x1_0
        (Host.reduceAdd (numerators x) (constant S_ .f32 0x00000000#32) reducesTo_S8192x32000_S8192_d1 h_S_))
      (broadcastInDim S8192x1 ![] bcast_S_S8192x1 (constant S_ .f32 0x322BCC77#32))))

/-- At `(r, j)` it is the Taylor softmax of row `r` at `j`. -/
theorem result_apply (x : FVec Ideal S8192x32000 .f32) (r : Fin 8192) (j : Fin 32000) :
    result x (ix2 r j) = Cert.TaylorRow.softmax (fun k : Fin 32000 => x (ix2 r k)) j := by
  pointwise [result, numerators]
  rfl

end Cert.ReferenceIdeal.Rows

end
-- ==== Proof.lean ====
/-
  The certificate: the frames of the three programs, the idealization without a rewrite, and the value claim — over the extended
  reals the kernel and the reference end with the same result array, the Taylor softmax of every row of the argument.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelRows
public import proofs.«01_k».proof.Proof.ReferenceRows
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates without fault, its argument unchanged; it has no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From the same argument the reference's result is the kernel's: both hold the Taylor softmax of every row. -/
theorem results_agree (x : FVec Ideal Cert.ReferenceIdeal.S8192x32000 .f32) :
    Cert.ReferenceIdeal.Rows.result x = Cert.KernelIdeal.Rows.softmaxRows x := by
  funext i
  have hi : i = (ix2 (i 0 : Fin 8192) (i 1 : Fin 32000) : Cert.ReferenceIdeal.S8192x32000.Idx) := by
    funext a; match a with | ⟨0, _⟩ => rfl | ⟨1, _⟩ => rfl
  rw [hi]
  exact Cert.ReferenceIdeal.Rows.result_apply x _ _

/-- The value claim: kernel and reference, from memories that agree on the argument, end with the same result array. -/
theorem algebraic : Cert.algebraic_KernelIdeal_ReferenceIdeal := by
  intro m ρ m' ρ' _ hagree
  refine ⟨fun c => Cert.KernelIdeal.Rows.result m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [hagree c]
  exact results_agree _

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
